-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S16x768x512 : Shape := ⟨3, ![16, 768, 512]⟩
abbrev S16x128x256 : Shape := ⟨3, ![16, 128, 256]⟩
abbrev S17x768 : Shape := ⟨2, ![17, 768]⟩
abbrev S_ : Shape := ⟨0, ![]⟩

class Facts : Prop where
  bcast_S_S16x128x256 : S_.BroadcastsInDim S16x128x256 (![] : Fin 0 → Fin S16x128x256.rank)

variable [Facts]

def fn {F : FTy → Type} [FloatOps F] (main_arg0 : FVec F S16x768x512 .f32) (main_arg1 : IVec S16x128x256 32) (main_arg2 : IVec S16x128x256 32) (main_arg3 : FVec F S17x768 .f32) : IVec S16x128x256 1 :=
  let main_c : IVec S_ 32 := constantI S_ 32 0#32
  let main_v0 : IVec S16x128x256 32 := broadcastInDim S16x128x256 ![] bcast_S_S16x128x256 main_c
  let main_v1 : IVec S16x128x256 1 := cmpi .sge main_arg1 main_v0
  let main_c_0 : IVec S_ 32 := constantI S_ 32 128#32
  let main_v2 : IVec S16x128x256 32 := broadcastInDim S16x128x256 ![] bcast_S_S16x128x256 main_c_0
  let main_v3 : IVec S16x128x256 1 := cmpi .slt main_arg1 main_v2
  let main_v4 : IVec S16x128x256 1 := andi main_v1 main_v3
  main_v4
-- ==== Kernel.lean ====
abbrev S16x768x512 : Shape := ⟨3, ![16, 768, 512]⟩
abbrev S16x128x256 : Shape := ⟨3, ![16, 128, 256]⟩
abbrev S17x768 : Shape := ⟨2, ![17, 768]⟩
abbrev S16x128x1 : Shape := ⟨3, ![16, 128, 1]⟩
abbrev S16x128 : Shape := ⟨2, ![16, 128]⟩
abbrev S16x1x128 : Shape := ⟨3, ![16, 1, 128]⟩
abbrev S_ : Shape := ⟨0, ![]⟩
abbrev S32x768 : Shape := ⟨2, ![32, 768]⟩
abbrev S6x2x768x512 : Shape := ⟨4, ![6, 2, 768, 512]⟩
abbrev S6 : Shape := ⟨1, ![6]⟩
abbrev S128x512 : Shape := ⟨2, ![128, 512]⟩
abbrev S32x128 : Shape := ⟨2, ![32, 128]⟩
abbrev S1 : Shape := ⟨1, ![1]⟩
abbrev S1x2x768x512 : Shape := ⟨4, ![1, 2, 768, 512]⟩
abbrev S2x768x512 : Shape := ⟨3, ![2, 768, 512]⟩
abbrev S1x1x128 : Shape := ⟨3, ![1, 1, 128]⟩
abbrev S1x128 : Shape := ⟨2, ![1, 128]⟩
abbrev S32x512 : Shape := ⟨2, ![32, 512]⟩
abbrev S768x512 : Shape := ⟨2, ![768, 512]⟩
abbrev S1x1x768x512 : Shape := ⟨4, ![1, 1, 768, 512]⟩

abbrev nBuf : Space → Nat
  | .hbm => 11
  | .vmem => 4
  | .smem => 0
  | _ => 0

abbrev bufTy : (tb : Table) → Fin (tcTables nBuf tb) → BufTy
  | .hbm, ⟨0, _⟩ => ⟨S16x768x512, .f32⟩
  | .hbm, ⟨1, _⟩ => ⟨S16x128x256, .i32⟩
  | .hbm, ⟨2, _⟩ => ⟨S16x128x256, .i32⟩
  | .hbm, ⟨3, _⟩ => ⟨S17x768, .f32⟩
  | .hbm, ⟨4, _⟩ => ⟨S16x128x1, .i32⟩
  | .hbm, ⟨5, _⟩ => ⟨S16x128, .i32⟩
  | .hbm, ⟨6, _⟩ => ⟨S16x1x128, .i32⟩
  | .hbm, ⟨7, _⟩ => ⟨S_, .i32⟩
  | .hbm, ⟨8, _⟩ => ⟨S_, .f32⟩
  | .hbm, ⟨9, _⟩ => ⟨S32x768, .f32⟩
  | .hbm, ⟨10, _⟩ => ⟨S16x768x512, .f32⟩
  | .local _ .vmem, ⟨0, _⟩ => ⟨S16x1x128, .i32⟩
  | .local _ .vmem, ⟨1, _⟩ => ⟨S32x768, .f32⟩
  | .local _ .vmem, ⟨2, _⟩ => ⟨S6x2x768x512, .f32⟩
  | .local _ .vmem, ⟨3, _⟩ => ⟨S6x2x768x512, .f32⟩
  | _, _ => ⟨S16x768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_call0_v0 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x768x512 : Shape := ⟨3, ![16, 768, 512]⟩
abbrev S16x128x256 : Shape := ⟨3, ![16, 128, 256]⟩
abbrev S17x768 : Shape := ⟨2, ![17, 768]⟩
abbrev S_ : Shape := ⟨0, ![]⟩
abbrev S16x128x1 : Shape := ⟨3, ![16, 128, 1]⟩
abbrev S16x128 : Shape := ⟨2, ![16, 128]⟩
abbrev S512 : Shape := ⟨1, ![512]⟩
abbrev S512x1 : Shape := ⟨2, ![512, 1]⟩
abbrev S16x512 : Shape := ⟨2, ![16, 512]⟩
abbrev S16x512x1 : Shape := ⟨3, ![16, 512, 1]⟩
abbrev S1 : Shape := ⟨1, ![1]⟩
abbrev S1x1x1 : Shape := ⟨3, ![1, 1, 1]⟩
abbrev S16x512x768 : Shape := ⟨3, ![16, 512, 768]⟩

abbrev nBuf : Space → Nat
  | .hbm => 80
  | .vmem => 0
  | .smem => 0
  | _ => 0

abbrev bufTy : (tb : Table) → Fin (tcTables nBuf tb) → BufTy
  | .hbm, ⟨0, _⟩ => ⟨S16x768x512, .f32⟩
  | .hbm, ⟨1, _⟩ => ⟨S16x128x256, .i32⟩
  | .hbm, ⟨2, _⟩ => ⟨S16x128x256, .i32⟩
  | .hbm, ⟨3, _⟩ => ⟨S17x768, .f32⟩
  | .hbm, ⟨4, _⟩ => ⟨S_, .i32⟩
  | .hbm, ⟨5, _⟩ => ⟨S_, .i32⟩
  | .hbm, ⟨6, _⟩ => ⟨S16x128x256, .i32⟩
  | .hbm, ⟨7, _⟩ => ⟨S16x128x256, .i32⟩
  | .hbm, ⟨8, _⟩ => ⟨S16x128x256, .i32⟩
  | .hbm, ⟨9, _⟩ => ⟨S_, .i32⟩
  | .hbm, ⟨10, _⟩ => ⟨S16x128x256, .i32⟩
  | .hbm, ⟨11, _⟩ => ⟨S16x128x256, .i1⟩
  | .hbm, ⟨12, _⟩ => ⟨S16x128x256, .i32⟩
  | .hbm, ⟨13, _⟩ => ⟨S16x128x256, .i32⟩
  | .hbm, ⟨14, _⟩ => ⟨S_, .i32⟩
  | .hbm, ⟨15, _⟩ => ⟨S16x128x256, .i32⟩
  | .hbm, ⟨16, _⟩ => ⟨S16x128x256, .i1⟩
  | .hbm, ⟨17, _⟩ => ⟨S16x128x256, .i1⟩
  | .hbm, ⟨18, _⟩ => ⟨S_, .i32⟩
  | .hbm, ⟨19, _⟩ => ⟨S16x128x256, .i32⟩
  | .hbm, ⟨20, _⟩ => ⟨S16x128x256, .i32⟩
  | .hbm, ⟨21, _⟩ => ⟨S16x128x256, .i32⟩
  | .hbm, ⟨22, _⟩ => ⟨S16x128x1, .i32⟩
  | .hbm, ⟨23, _⟩ => ⟨S16x128, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S16x512, .i32⟩
  | .hbm, ⟨55, _⟩ => ⟨S_, .i32⟩
  | .hbm, ⟨56, _⟩ => ⟨S16x512, .i32⟩
  | .hbm, ⟨57, _⟩ => ⟨S16x512, .i1⟩
  | .hbm, ⟨58, _⟩ => ⟨S_, .i32⟩
  | .hbm, ⟨59, _⟩ => ⟨S16x512, .i32⟩
  | .hbm, ⟨60, _⟩ => ⟨S16x512, .i32⟩
  | .hbm, ⟨61, _⟩ => ⟨S16x512, .i32⟩
  | .hbm, ⟨62, _⟩ => ⟨S16x512x1, .i32⟩
  | .hbm, ⟨63, _⟩ => ⟨S1, .i32⟩
  | .hbm, ⟨64, _⟩ => ⟨S_, .i32⟩
  | .hbm, ⟨65, _⟩ => ⟨S16x512x1, .i32⟩
  | .hbm, ⟨66, _⟩ => ⟨S16x512x1, .i1⟩
  | .hbm, ⟨67, _⟩ => ⟨S1x1x1, .i32⟩
  | .hbm, ⟨68, _⟩ => ⟨S16x512x1, .i32⟩
  | .hbm, ⟨69, _⟩ => ⟨S16x512x1, .i1⟩
  | .hbm, ⟨70, _⟩ => ⟨S16x512x1, .i1⟩
  | .hbm, ⟨71, _⟩ => ⟨S_, .i1⟩
  | .hbm, ⟨72, _⟩ => ⟨S16x512, .i1⟩
  | .hbm, ⟨73, _⟩ => ⟨S16x512x768, .f32⟩
  | .hbm, ⟨74, _⟩ => ⟨S16x512x768, .i1⟩
  | .hbm, ⟨75, _⟩ => ⟨S_, .f32⟩
  | .hbm, ⟨76, _⟩ => ⟨S16x512x768, .f32⟩
  | .hbm, ⟨77, _⟩ => ⟨S16x512x768, .f32⟩
  | .hbm, ⟨78, _⟩ => ⟨S16x768x512, .f32⟩
  | .hbm, ⟨79, _⟩ => ⟨S16x768x512, .f32⟩
  | _, _ => ⟨S16x768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_c_2 : Ref sig .tc := ⟨.hbm, 46, rfl⟩
abbrev main_v7 : Ref sig .tc := ⟨.hbm, 47, rfl⟩
abbrev main_v8 : Ref sig .tc := ⟨.hbm, 48, rfl⟩
abbrev main_c_3 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩

abbrev nD : Nat := 1
abbrev τ : Topo := Topo.v7x

variable {F : FTy → Type} [FloatOps F]
-- ==== Proof.Body.lean ====
/-
  The kernel's body, run once.

  The kernel has no grid: it copies `x` into a ring of six slots, two planes at a time, adds to each plane the rows the
  positions name, and copies the sums out of a second ring of six slots. Every copy, every wait and every slot is written
  out in the program text, so one symbolic run covers it. The run keeps each buffer whole and each copy in flight until
  its wait; what it leaves in the result array is a list of eight blocks.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- `x`, left in HBM. -/
abbrev xM : Memref sig .tc .hbm S16x768x512 .f32 := Memref.whole main_arg0
/-- The result, left in HBM. -/
abbrev oM : Memref sig .tc .hbm S16x768x512 .f32 := Memref.whole main_v0
/-- The ring that blocks of `x` are copied into. -/
abbrev xb : Memref sig .tc .vmem S6x2x768x512 .f32 := Memref.whole cc0_scratch0
/-- The ring that blocks of the result are copied out of. -/
abbrev ob : Memref sig .tc .vmem S6x2x768x512 .f32 := Memref.whole cc0_scratch1
/-- A whole buffer of core `c` with its contents. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
set_option sl_exec.dmaWindow true in
set_option maxHeartbeats 2000000 in
/-- The body runs. Given the two staged blocks, the two arrays left in HBM, the two rings and the twelve cells with their
    counters at zero, it ends with the staged blocks and `x` as they were, the rings at some contents, every counter at
    zero again, and the result array written with a list of blocks, newest first. That list is the first component:
    the run itself computes it. -/
def run (c : Dev nD) (arg0 : Memref sig .tc .vmem S16x1x128 .i32) (harg0 : arg0.IsWhole)
    (arg1 : Memref sig .tc .vmem S32x768 .f32) (harg1 : arg1.IsWhole)
    (fp : Buf (Elt F) (arg0.view.loc (c : Thread nD τ))) (ft : Buf (Elt F) (arg1.view.loc (c : Thread nD τ)))
    (x : Buf (Elt F) (xM.view.loc (c : Thread nD τ))) (fo : Buf (Elt F) (oM.view.loc (c : Thread nD τ)))
    (fx : Buf (Elt F) (xb.view.loc (c : Thread nD τ))) (fob : Buf (Elt F) (ob.view.loc (c : Thread nD τ))) :
    { L : List (View.Piece (Elt F) S16x768x512 .f32) //
      ∀ (W : Waits sig Unit) (Q : PUnit → sProp 𝕄),
    iprop((arg0.view.loc (c : Thread nD τ) ↦[arg0.view.set]{fullShare} fp) ∗ (arg1.view.loc (c : Thread nD τ) ↦[arg1.view.set]{fullShare} ft)
      ∗ pt (F := F) c xM x ∗ pt (F := F) c oM fo ∗ pt (F := F) c xb fx ∗ pt (F := F) c ob fob
      ∗ semVal ((c : Thread nD τ), SemLoc.dma 2) 0 ∗ semVal ((c : Thread nD τ), SemLoc.dma 3) 0
      ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0
      ∗ semVal ((c : Thread nD τ), SemLoc.dma 8) 0 ∗ semVal ((c : Thread nD τ), SemLoc.dma 9) 0
      ∗ semVal ((c : Thread nD τ), SemLoc.dma 10) 0 ∗ semVal ((c : Thread nD τ), SemLoc.dma 11) 0
      ∗ semVal ((c : Thread nD τ), SemLoc.dma 12) 0 ∗ semVal ((c : Thread nD τ), SemLoc.dma 13) 0
      ∗ owes (c : Thread nD τ) 0 W
      ∗ ((arg0.view.loc (c : Thread nD τ) ↦[arg0.view.set]{fullShare} fp) ∗ (arg1.view.loc (c : Thread nD τ) ↦[arg1.view.set]{fullShare} ft)
          ∗ pt (F := F) c xM x ∗ pt (F := F) c oM (oM.view.writes (Elt F) fo L) ∗ (∃ f, pt (F := F) c xb f) ∗ (∃ f, pt (F := F) c ob f)
          ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0
          ∗ (∃ W', owes (c : Thread nD τ) 0 W') -∗ Q ⟨⟩))
    ⊢ wp frame (wpE (defs₀ (F := F)) Variants.none c none) Set.univ
      (cc0__pos_enc_kernel arg0 harg0 arg1 harg1 xM (Memref.isWhole_whole _) oM (Memref.isWhole_whole _) xb (Memref.isWhole_whole _) ob (Memref.isWhole_whole _) cc0_scratch2 cc0_scratch3) Q } := by
  refine ⟨?_, fun W Q => ?_⟩
  swap
  · simp only [cc0__pos_enc_kernel_eq_skeleton]
    unfold cc0__pos_enc_kernel_skel
    iintro ⟨Hp, Ht, Hx, Ho, Hxb, Hob, Hq0, Hq1, Hq2, Hq3, Hq4, Hq5, Hr0, Hr1, Hr2, Hr3, Hr4, Hr5, HW, Hk⟩
    sl_exec
    sl_step
    iapply Hk
    isplitl [Hp]; · iexact Hp
    isplitl [Ht]; · iexact Ht
    isplitl [Hx]; · iexact Hx
    isplitl [Ho]; · iexact Ho
    isplitl [Hxb]; · iexists _; iexact Hxb
    isplitl [Hob]; · iexists _; iexact Hob
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexists _; iexact HW

end Cert.KernelIdeal.Hand
-- ==== Proof.Slots.lean ====
/-
  Reads and writes of the two rings and of the arrays in HBM, down to one element.

  A ring is six slots of two 768 × 512 planes. A copy moves one slot, seen as a block of two planes; a load or a store
  takes one plane of one slot. Each lemma says what one element reads, for a slot number or a plane number that is a
  variable, so that every step of the kernel cites the same lemma. Nothing here names the program.
-/
module

public import Idealize.ShloMosaic.Lib.Pipeline.FrameBody
public import Idealize.ShloMosaic.Lib.Pipeline.Value
public import Idealize.ShloMosaic.Lib.Writes
public import Idealize.ShloMosaic.Lib.Pointwise

@[expose] public section

namespace PosEnc

open Idealize.ShloMosaic

/-- A ring: six slots of two planes. -/
abbrev Ring : Shape := ⟨4, ![6, 2, 768, 512]⟩
/-- One slot of a ring. -/
abbrev Slot : Shape := ⟨4, ![1, 2, 768, 512]⟩
/-- A block of two planes, which one copy moves. -/
abbrev Block : Shape := ⟨3, ![2, 768, 512]⟩
/-- One plane of one slot. -/
abbrev Plane : Shape := ⟨4, ![1, 1, 768, 512]⟩
/-- The array in HBM: sixteen planes. -/
abbrev Arr : Shape := ⟨3, ![16, 768, 512]⟩

variable {Val : EltTy → Type} {sig : RefSig} {κ : Kind} {sp : Space}

/-- A slot as the copies name it: a slice of the ring with its leading axis dropped. -/
abbrev slot (M : Memref sig κ sp Ring .f32) (off : Fin 4 → ℕ) (inb : ∀ a, off a + Slot.size a ≤ Ring.size a)
    (hr : ∀ a, (Rect.unit (s := Ring) off Slot.size inb).stride a = 1) (hq : Slot.Squeezes Block) : Memref sig κ sp Block .f32 :=
  (M.slice (Rect.unit (s := Ring) off Slot.size inb) hr).squeeze Block hq

/-- Where the element (j, d, l) of slot `s` lies in the ring. -/
theorem slot_emb (M : Memref sig κ sp Ring .f32) (s : Fin 6) (off : Fin 4 → ℕ) (ho : off = ![s.val, 0, 0, 0]) (inb) (hr) (hq)
    (j : Fin 2) (d : Fin 768) (l : Fin 512) :
    (slot M off inb hr hq).view.emb (ix3 j d l) = M.view.emb (ix4 s j d l) := by
  subst ho
  have e : (slot M ![s.val, 0, 0, 0] inb hr hq).view.emb (ix3 j d l)
      = M.view.emb ((Rect.unit (s := Ring) ![s.val, 0, 0, 0] Slot.size inb).emb (Shape.reshapeEquiv hq.numel_eq (ix3 j d l))) := rfl
  rw [e, Shape.reshapeEquiv_cons_one]
  congr 1
  funext a
  apply Fin.ext
  rw [Rect.emb_apply]
  match a with
  | ⟨0, _⟩ => show s.val + 1 * 0 = s.val; omega
  | ⟨1, _⟩ => show 0 + 1 * j.val = j.val; omega
  | ⟨2, _⟩ => show 0 + 1 * d.val = d.val; omega
  | ⟨3, _⟩ => show 0 + 1 * l.val = l.val; omega

/-- Reading slot `s` is reading the ring at slot `s`. -/
theorem read_slot (M : Memref sig κ sp Ring .f32) (s : Fin 6) (off : Fin 4 → ℕ) (ho : off = ![s.val, 0, 0, 0]) (inb) (hr) (hq)
    (f : M.view.ty.Contents Val) (j : Fin 2) (d : Fin 768) (l : Fin 512) :
    (slot M off inb hr hq).view.read Val f (ix3 j d l) = M.view.read Val f (ix4 s j d l) := by
  rw [View.read_apply, View.read_apply, slot_emb M s off ho]

/-- What a copy put into slot `s` is what the ring then reads at slot `s`. -/
theorem read_slot_own (M : Memref sig κ sp Ring .f32) (s : Fin 6) (off : Fin 4 → ℕ) (ho : off = ![s.val, 0, 0, 0]) (inb) (hr) (hq)
    (f : M.view.ty.Contents Val) (w : Block.Idx → Val .f32) (j : Fin 2) (d : Fin 768) (l : Fin 512) :
    M.view.read Val ((slot M off inb hr hq).view.write Val f w Finset.univ) (ix4 s j d l) = w (ix3 j d l) := by
  rw [← read_slot M s off ho inb hr hq, View.read_write_univ]

/-- A copy into another slot leaves slot `s` as it was. -/
theorem read_slot_other (M : Memref sig κ sp Ring .f32) (s s' : Fin 6) (hs : s ≠ s') (off : Fin 4 → ℕ) (ho : off = ![s'.val, 0, 0, 0])
    (inb) (hr) (hq) (f : M.view.ty.Contents Val) (w : Block.Idx → Val .f32) (j : Fin 2) (d : Fin 768) (l : Fin 512) :
    M.view.read Val ((slot M off inb hr hq).view.write Val f w Finset.univ) (ix4 s j d l) = M.view.read Val f (ix4 s j d l) := by
  apply View.read_congr_at
  apply View.write_of_not_mem
  intro hm
  obtain ⟨x, _, hx⟩ := Finset.mem_map.mp hm
  have hx' : M.view.emb (ix4 s' (x 0) (x 1) (x 2)) = M.view.emb (ix4 s j d l) :=
    ((slot_emb M s' off ho inb hr hq (x 0) (x 1) (x 2)).symm.trans (congrArg _ (eq_ix3 x).symm)).trans hx
  have h0 := congrArg (fun i : Ring.Idx => (i 0 : Fin 6)) (M.view.emb.injective hx')
  exact hs h0.symm

/-- A load of plane `j` of slot `s` reads the ring there. -/
theorem readAt_plane (M : Memref sig κ sp Ring .f32) (s : Fin 6) (j : Fin 2) (off : Fin 4 → ℕ) (ho : off = ![s.val, j.val, 0, 0]) (inb)
    (f : M.view.ty.Contents Val) (a b : Fin 1) (d : Fin 768) (l : Fin 512) :
    M.view.readAt Val (Rect.unit (s := Ring) off Plane.size inb).toLoadRect f (ix4 a b d l) = M.view.read Val f (ix4 s j d l) := by
  subst ho
  rw [View.readAt_apply]
  congr 1
  funext i
  apply Fin.ext
  match i with
  | ⟨0, _⟩ => show s.val + 1 * a.val = s.val; omega
  | ⟨1, _⟩ => show j.val + 1 * b.val = j.val; omega
  | ⟨2, _⟩ => show 0 + 1 * d.val = d.val; omega
  | ⟨3, _⟩ => show 0 + 1 * l.val = l.val; omega

/-- A slot whose two planes were the last two stored, plane 0 and then plane 1: what a copy out of it reads. -/
theorem read_slot_stored (M : Memref sig κ sp Ring .f32) (s : Fin 6) (off off0 off1 : Fin 4 → ℕ) (ho : off = ![s.val, 0, 0, 0])
    (ho0 : off0 = ![s.val, 0, 0, 0]) (ho1 : off1 = ![s.val, 1, 0, 0]) (inb) (hr) (hq) (inb0) (inb1)
    (f : M.view.ty.Contents Val) (w0 w1 : Plane.Idx → Val .f32) (L : List (View.Piece Val Ring .f32))
    (j : Fin 2) (d : Fin 768) (l : Fin 512) :
    (slot M off inb hr hq).view.read Val
        (M.view.writes Val f (⟨Rect.unit (s := Ring) off1 Plane.size inb1, w1⟩ :: ⟨Rect.unit (s := Ring) off0 Plane.size inb0, w0⟩ :: L)) (ix3 j d l)
      = (if j = 0 then w0 else w1) (ix4 0 0 d l) := by
  subst ho0 ho1
  rw [read_slot M s off ho]
  by_cases hj : j = 0
  · subst hj
    rw [if_pos rfl, View.read_writes_cons_miss_of_axis _ _ _ _ _ 1 1 1 rfl rfl rfl (Or.inl (by show (0 : ℕ) < 1; omega))]
    refine View.read_writes_cons_hit_of_coords M.view f (Rect.unit (s := Ring) ![s.val, 0, 0, 0] Plane.size inb0) w0 _ (ix4 0 0 d l) _ fun a => ?_
    match a with
    | ⟨0, _⟩ => show s.val = s.val + 1 * 0; omega
    | ⟨1, _⟩ => show 0 = 0 + 1 * 0; omega
    | ⟨2, _⟩ => show d.val = 0 + 1 * d.val; omega
    | ⟨3, _⟩ => show l.val = 0 + 1 * l.val; omega
  · obtain rfl : j = 1 := by omega
    rw [if_neg hj]
    refine View.read_writes_cons_hit_of_coords M.view f (Rect.unit (s := Ring) ![s.val, 1, 0, 0] Plane.size inb1) w1 _ (ix4 0 0 d l) _ fun a => ?_
    match a with
    | ⟨0, _⟩ => show s.val = s.val + 1 * 0; omega
    | ⟨1, _⟩ => show 1 = 1 + 1 * 0; omega
    | ⟨2, _⟩ => show d.val = 0 + 1 * d.val; omega
    | ⟨3, _⟩ => show l.val = 0 + 1 * l.val; omega

/-- Block `k` of an array in HBM holds its planes 2k and 2k + 1. -/
theorem block_emb (k : Fin 8) (off : Fin 3 → ℕ) (ho : off = ![2 * k.val, 0, 0]) (inb) (j : Fin 2) (d : Fin 768) (l : Fin 512) :
    (Rect.unit (s := Arr) off Block.size inb).emb (ix3 j d l) = ix3 (⟨2 * k.val + j.val, by omega⟩ : Fin 16) d l := by
  subst ho
  funext i
  apply Fin.ext
  rw [Rect.emb_apply]
  match i with
  | ⟨0, _⟩ => show 2 * k.val + 1 * j.val = 2 * k.val + j.val; omega
  | ⟨1, _⟩ => show 0 + 1 * d.val = d.val; omega
  | ⟨2, _⟩ => show 0 + 1 * l.val = l.val; omega

end PosEnc
-- ==== Proof.Pieces.lean ====
/-
  What the body leaves in the result array, one formula for all sixteen planes.

  The run lists eight blocks of two planes. The list's terms are the run's own (loads out of the ring after the copies
  that had landed by then); here each is shown to be the plane formula `planeVal` at the plane's own row of positions and
  its own plane of `x`.
-/
module

public import proofs.«01_k».proof.Proof.Body
public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- One plane of the result from its row of positions, the table and its plane of `x`: the kernel's own operations. -/
def planeVal (pr : Vec F S1x1x128 .i32) (tab : Vec F S32x768 .f32) (xt : Vec F S1x1x768x512 .f32) : FVec F S1x1x768x512 .f32 :=
  k0_pay3 (k0_pay2 k0_pay1 (iota .tc S32x128 32 [0] iota_S32x128_d0_w32) pr) tab xt

/-- A row of positions lies inside the array of positions. -/
theorem row_inb (b : Fin 16) : ∀ a, (![b.val, 0, 0] : Fin 3 → ℕ) a + S1x1x128.size a ≤ S16x1x128.size a := by
  intro a
  match a with
  | ⟨0, _⟩ => show b.val + 1 ≤ 16; omega
  | ⟨1, _⟩ => show 0 + 1 ≤ 1; omega
  | ⟨2, _⟩ => show 0 + 128 ≤ 128; omega

/-- Row `b` of the staged positions. -/
def posRow (arg0 : Memref sig .tc .vmem S16x1x128 .i32) (fp : arg0.view.ty.Contents (Elt F)) (b : Fin 16) : Vec F S1x1x128 .i32 :=
  arg0.view.readAt (Elt F) (Rect.unit (s := S16x1x128) ![b.val, 0, 0] S1x1x128.size (row_inb b)).toLoadRect fp

/-- The staged table. -/
def tabAll (arg1 : Memref sig .tc .vmem S32x768 .f32) (ft : arg1.view.ty.Contents (Elt F)) : Vec F S32x768 .f32 :=
  arg1.view.readAt (Elt F) (Rect.unit (s := S32x768) ![0, 0] S32x768.size inb_S32x768_S32x768_0_0).toLoadRect ft

/-- Plane `b` of `x`. -/
def xPlane (x : xM.view.ty.Contents (Elt F)) (b : Fin 16) : Vec F S1x1x768x512 .f32 :=
  fun i => xM.view.read (Elt F) x (ix3 b (i 2 : Fin 768) (i 3 : Fin 512))

/-- The result array: at (b, d, l), plane `b`'s formula at (d, l). -/
def result (arg0 : Memref sig .tc .vmem S16x1x128 .i32) (arg1 : Memref sig .tc .vmem S32x768 .f32)
    (fp : arg0.view.ty.Contents (Elt F)) (ft : arg1.view.ty.Contents (Elt F)) (x : xM.view.ty.Contents (Elt F)) :
    S16x768x512.Idx → Elt F .f32 :=
  fun y => planeVal (posRow arg0 fp (y 0)) (tabAll arg1 ft) (xPlane x (y 0)) (ix4 (0 : Fin 1) (0 : Fin 1) (y 1 : Fin 768) (y 2 : Fin 512))

/-- The ring's contents `f` hold block `k` of `x` in slot `s`. -/
def Holds (x : xM.view.ty.Contents (Elt F)) (f : xb.view.ty.Contents (Elt F)) (s : Fin 6) (k : Fin 8) : Prop :=
  ∀ (j : Fin 2) (d : Fin 768) (l : Fin 512),
    xb.view.read (Elt F) f (ix4 s j d l) = xM.view.read (Elt F) x (ix3 (⟨2 * k.val + j.val, by omega⟩ : Fin 16) d l)

/-- A slot lies inside the ring. -/
theorem slot_inb (s : Fin 6) : ∀ a, (![s.val, 0, 0, 0] : Fin 4 → ℕ) a + S1x2x768x512.size a ≤ S6x2x768x512.size a := by
  intro a
  match a with
  | ⟨0, _⟩ => show s.val + 1 ≤ 6; omega
  | ⟨1, _⟩ => show 0 + 2 ≤ 2; omega
  | ⟨2, _⟩ => show 0 + 768 ≤ 768; omega
  | ⟨3, _⟩ => show 0 + 512 ≤ 512; omega

/-- A block lies inside `x`. -/
theorem block_inb (k : Fin 8) : ∀ a, (![2 * k.val, 0, 0] : Fin 3 → ℕ) a + S2x768x512.size a ≤ S16x768x512.size a := by
  intro a
  match a with
  | ⟨0, _⟩ => show 2 * k.val + 2 ≤ 16; omega
  | ⟨1, _⟩ => show 0 + 768 ≤ 768; omega
  | ⟨2, _⟩ => show 0 + 512 ≤ 512; omega

/-- The ring after block `k` of `x` is copied into slot `s`. -/
def copyIn (x : xM.view.ty.Contents (Elt F)) (s : Fin 6) (k : Fin 8) (f : xb.view.ty.Contents (Elt F)) : xb.view.ty.Contents (Elt F) :=
  (PosEnc.slot xb ![s.val, 0, 0, 0] (slot_inb s) (fun _ => rfl) squeezes_S1x2x768x512_S2x768x512).view.write (Elt F) f
    (ReadAs.same.apply ((xM.slice (Rect.unit (s := S16x768x512) ![2 * k.val, 0, 0] S2x768x512.size (block_inb k)) (fun _ => rfl)).view.read (Elt F) x))
    Finset.univ

/-- After the copy of block `k` into slot `s`, the slot holds the block. -/
theorem copyIn_own (x : xM.view.ty.Contents (Elt F)) (f : xb.view.ty.Contents (Elt F)) (s : Fin 6) (k : Fin 8) :
    Holds x (copyIn x s k f) s k := by
  intro j d l
  refine (PosEnc.read_slot_own xb s _ rfl _ _ _ f _ j d l).trans ?_
  exact congrArg (xM.view.read (Elt F) x) (PosEnc.block_emb k _ rfl (block_inb k) j d l)

/-- A copy into another slot leaves the block held. -/
theorem copyIn_other (x : xM.view.ty.Contents (Elt F)) (f : xb.view.ty.Contents (Elt F)) (s s' : Fin 6) (k k' : Fin 8)
    (hs : s ≠ s') (h : Holds x f s k) : Holds x (copyIn x s' k' f) s k :=
  fun j d l => (PosEnc.read_slot_other xb s s' hs _ rfl _ _ _ f _ j d l).trans (h j d l)

/-- The block whose number is the slot's. -/
abbrev blockOf (s : Fin 6) : Fin 8 := s.castLE (by omega)

/-- After block `s'` is copied into slot `s'`, slot `s` holds block `s` if it is that slot or held its block before. -/
theorem copyIn_same (x : xM.view.ty.Contents (Elt F)) (f : xb.view.ty.Contents (Elt F)) (s s' : Fin 6)
    (h : s ≠ s' → Holds x f s (blockOf s)) : Holds x (copyIn x s' (blockOf s') f) s (blockOf s) := by
  by_cases hs : s = s'
  · subst hs; exact copyIn_own x f s _
  · exact copyIn_other x f s s' _ _ hs (h hs)

/-- The ring once the first six blocks have been copied in, one per slot. -/
def ring6 (x : xM.view.ty.Contents (Elt F)) (f : xb.view.ty.Contents (Elt F)) : xb.view.ty.Contents (Elt F) :=
  copyIn x 5 5 (copyIn x 4 4 (copyIn x 3 3 (copyIn x 2 2 (copyIn x 1 1 (copyIn x 0 0 f)))))

/-- Each of the six slots then holds the block of its own number. -/
theorem ring6_holds (x : xM.view.ty.Contents (Elt F)) (f : xb.view.ty.Contents (Elt F)) (s : Fin 6) :
    Holds x (ring6 x f) s (blockOf s) := by
  unfold ring6
  exact copyIn_same x _ s 5 fun h5 => copyIn_same x _ s 4 fun h4 => copyIn_same x _ s 3 fun h3 =>
    copyIn_same x _ s 2 fun h2 => copyIn_same x _ s 1 fun h1 => copyIn_same x _ s 0 fun h0 => by omega

/-- The ring once block 6 has been copied over block 0. -/
def ring7 (x : xM.view.ty.Contents (Elt F)) (f : xb.view.ty.Contents (Elt F)) : xb.view.ty.Contents (Elt F) :=
  copyIn x 0 6 (ring6 x f)

/-- The ring once block 7 has been copied over block 1. -/
def ring8 (x : xM.view.ty.Contents (Elt F)) (f : xb.view.ty.Contents (Elt F)) : xb.view.ty.Contents (Elt F) :=
  copyIn x 1 7 (ring7 x f)

/-- Slots 2 to 5 hold their first blocks to the end. -/
theorem ring8_holds (x : xM.view.ty.Contents (Elt F)) (f : xb.view.ty.Contents (Elt F)) (s : Fin 6) (h0 : s ≠ 0) (h1 : s ≠ 1) :
    Holds x (ring8 x f) s (blockOf s) :=
  copyIn_other _ _ _ _ _ _ h1 (copyIn_other _ _ _ _ _ _ h0 (ring6_holds x f s))

/-- A load of plane `j` of the slot that holds block `k` is plane `2k + j` of `x`. -/
theorem load_held {x : xM.view.ty.Contents (Elt F)} {f : xb.view.ty.Contents (Elt F)} {s : Fin 6} {k : Fin 8} (h : Holds x f s k)
    (j : Fin 2) (off : Fin 4 → ℕ) (ho : off = ![s.val, j.val, 0, 0]) (inb) :
    xb.view.readAt (Elt F) (Rect.unit (s := S6x2x768x512) off S1x1x768x512.size inb).toLoadRect f
      = xPlane x (⟨2 * k.val + j.val, by omega⟩ : Fin 16) := by
  funext i
  obtain ⟨a, b, d, l, rfl⟩ : ∃ (a b : Fin 1) (d : Fin 768) (l : Fin 512), i = ix4 a b d l := ⟨i 0, i 1, i 2, i 3, eq_ix4 i⟩
  rw [PosEnc.readAt_plane xb s j off ho, h]
  rfl

/-- One block the run copies out: the planes of slot `s` stored from block `k`, read back, are the result's planes
    `2k` and `2k + 1`. -/
theorem block_piece (arg0 : Memref sig .tc .vmem S16x1x128 .i32) (arg1 : Memref sig .tc .vmem S32x768 .f32)
    (fp : arg0.view.ty.Contents (Elt F)) (ft : arg1.view.ty.Contents (Elt F)) (x : xM.view.ty.Contents (Elt F))
    (s : Fin 6) (k : Fin 8) (f0 f1 : xb.view.ty.Contents (Elt F)) (h0 : Holds x f0 s k) (h1 : Holds x f1 s k)
    (fob : ob.view.ty.Contents (Elt F)) (L : List (View.Piece (Elt F) S6x2x768x512 .f32))
    (off off0 off1 : Fin 4 → ℕ) (ho : off = ![s.val, 0, 0, 0]) (ho0 : off0 = ![s.val, 0, 0, 0]) (ho1 : off1 = ![s.val, 1, 0, 0])
    (inb) (hr) (hq) (inb0) (inb1) (inb0') (inb1') (ooff : Fin 3 → ℕ) (hoo : ooff = ![2 * k.val, 0, 0]) (oinb) (i : S2x768x512.Idx) :
    ReadAs.same.apply ((PosEnc.slot ob off inb hr hq).view.read (Elt F) (ob.view.writes (Elt F) fob
      (⟨Rect.unit (s := S6x2x768x512) off1 S1x1x768x512.size inb1, planeVal (posRow arg0 fp (⟨2 * k.val + 1, by omega⟩ : Fin 16)) (tabAll arg1 ft)
          (xb.view.readAt (Elt F) (Rect.unit (s := S6x2x768x512) off1 S1x1x768x512.size inb1').toLoadRect f1)⟩
        :: ⟨Rect.unit (s := S6x2x768x512) off0 S1x1x768x512.size inb0, planeVal (posRow arg0 fp (⟨2 * k.val + 0, by omega⟩ : Fin 16)) (tabAll arg1 ft)
          (xb.view.readAt (Elt F) (Rect.unit (s := S6x2x768x512) off0 S1x1x768x512.size inb0').toLoadRect f0)⟩ :: L))) i
      = result arg0 arg1 fp ft x ((Rect.unit (s := S16x768x512) ooff S2x768x512.size oinb).emb i) := by
  obtain ⟨j, d, l, rfl⟩ : ∃ (j : Fin 2) (d : Fin 768) (l : Fin 512), i = ix3 j d l := ⟨i 0, i 1, i 2, eq_ix3 i⟩
  rw [load_held h0 0 off0 ho0, load_held h1 1 off1 ho1, PosEnc.block_emb k ooff hoo oinb j d l]
  refine (PosEnc.read_slot_stored ob s off off0 off1 ho ho0 ho1 inb hr hq inb0 inb1 fob _ _ L j d l).trans ?_
  by_cases hj : j = 0
  · subst hj; rfl
  · obtain rfl : j = 1 := by omega
    rfl

set_option maxHeartbeats 4000000 in
/-- Every block on the run's list is the result's block there. -/
theorem run_pieces (c : Dev nD) (arg0 : Memref sig .tc .vmem S16x1x128 .i32) (harg0 : arg0.IsWhole)
    (arg1 : Memref sig .tc .vmem S32x768 .f32) (harg1 : arg1.IsWhole)
    (fp : Buf (Elt F) (arg0.view.loc (c : Thread nD τ))) (ft : Buf (Elt F) (arg1.view.loc (c : Thread nD τ)))
    (x : Buf (Elt F) (xM.view.loc (c : Thread nD τ))) (fo : Buf (Elt F) (oM.view.loc (c : Thread nD τ)))
    (fx : Buf (Elt F) (xb.view.loc (c : Thread nD τ))) (fob : Buf (Elt F) (ob.view.loc (c : Thread nD τ))) :
    ∀ p ∈ (run c arg0 harg0 arg1 harg1 fp ft x fo fx fob).1, ∀ i, p.2 i = result arg0 arg1 fp ft x (p.1.emb i) := by
  unfold run
  simp only [List.forall_mem_cons, List.not_mem_nil, false_imp_iff, implies_true, and_true]
  refine ⟨?_, ?_, ?_, ?_, ?_, ?_, ?_, ?_⟩
  · exact fun i => block_piece arg0 arg1 fp ft x 1 7 (ring8 x fx) (ring8 x fx) (copyIn_own x (ring7 x fx) 1 7) (copyIn_own x (ring7 x fx) 1 7) fob _ _ _ _ rfl rfl rfl _ _ _ _ _ _ _ _ rfl _ i
  · exact fun i => block_piece arg0 arg1 fp ft x 0 6 (ring8 x fx) (ring8 x fx) (copyIn_other x (ring7 x fx) 0 1 6 7 (by decide) (copyIn_own x (ring6 x fx) 0 6)) (copyIn_other x (ring7 x fx) 0 1 6 7 (by decide) (copyIn_own x (ring6 x fx) 0 6)) fob _ _ _ _ rfl rfl rfl _ _ _ _ _ _ _ _ rfl _ i
  · exact fun i => block_piece arg0 arg1 fp ft x 5 5 (ring8 x fx) (ring8 x fx) (ring8_holds x fx 5 (by decide) (by decide)) (ring8_holds x fx 5 (by decide) (by decide)) fob _ _ _ _ rfl rfl rfl _ _ _ _ _ _ _ _ rfl _ i
  · exact fun i => block_piece arg0 arg1 fp ft x 4 4 (ring8 x fx) (ring8 x fx) (ring8_holds x fx 4 (by decide) (by decide)) (ring8_holds x fx 4 (by decide) (by decide)) fob _ _ _ _ rfl rfl rfl _ _ _ _ _ _ _ _ rfl _ i
  · exact fun i => block_piece arg0 arg1 fp ft x 3 3 (ring8 x fx) (ring8 x fx) (ring8_holds x fx 3 (by decide) (by decide)) (ring8_holds x fx 3 (by decide) (by decide)) fob _ _ _ _ rfl rfl rfl _ _ _ _ _ _ _ _ rfl _ i
  · exact fun i => block_piece arg0 arg1 fp ft x 2 2 (ring8 x fx) (ring8 x fx) (ring8_holds x fx 2 (by decide) (by decide)) (ring8_holds x fx 2 (by decide) (by decide)) fob _ _ _ _ rfl rfl rfl _ _ _ _ _ _ _ _ rfl _ i
  · exact fun i => block_piece arg0 arg1 fp ft x 1 1 (ring7 x fx) (ring7 x fx) (copyIn_other x (ring6 x fx) 1 0 1 6 (by decide) (ring6_holds x fx 1)) (copyIn_other x (ring6 x fx) 1 0 1 6 (by decide) (ring6_holds x fx 1)) fob _ _ _ _ rfl rfl rfl _ _ _ _ _ _ _ _ rfl _ i
  · exact fun i => block_piece arg0 arg1 fp ft x 0 0 (ring6 x fx) (ring6 x fx) (ring6_holds x fx 0) (ring6_holds x fx 0) fob _ _ _ _ rfl rfl rfl _ _ _ _ _ _ _ _ rfl _ i

/-- The eight blocks cover the array, so the array the run leaves is `result`, whatever it held before. -/
theorem run_result (c : Dev nD) (arg0 : Memref sig .tc .vmem S16x1x128 .i32) (harg0 : arg0.IsWhole)
    (arg1 : Memref sig .tc .vmem S32x768 .f32) (harg1 : arg1.IsWhole)
    (fp : Buf (Elt F) (arg0.view.loc (c : Thread nD τ))) (ft : Buf (Elt F) (arg1.view.loc (c : Thread nD τ)))
    (x : Buf (Elt F) (xM.view.loc (c : Thread nD τ))) (fo : Buf (Elt F) (oM.view.loc (c : Thread nD τ)))
    (fx : Buf (Elt F) (xb.view.loc (c : Thread nD τ))) (fob : Buf (Elt F) (ob.view.loc (c : Thread nD τ))) :
    oM.view.writes (Elt F) fo (run c arg0 harg0 arg1 harg1 fp ft x fo fx fob).1 = result arg0 arg1 fp ft x := by
  have hp := run_pieces c arg0 harg0 arg1 harg1 fp ft x fo fx fob
  have hc : ∀ y, ∃ p ∈ (run c arg0 harg0 arg1 harg1 fp ft x fo fx fob).1, y ∈ p.1.set := by
    intro y
    unfold run
    exact View.cover_of_tiledL (s := S16x768x512) _ S2x768x512.size (by sl_kernel_rfl) y
  generalize (run c arg0 harg0 arg1 harg1 fp ft x fo fx fob).1 = L at hp hc
  funext y
  exact View.read_writes_apply_of_pieces oM.view fo (result arg0 arg1 fp ft x) L hp y (hc y)

/-- The result array as a function of the three arrays' elements. -/
def outArr (p : Vec F S16x1x128 .i32) (t : Vec F S32x768 .f32) (x : Vec F S16x768x512 .f32) : S16x768x512.Idx → Elt F .f32 :=
  fun y => planeVal (fun i => p (ix3 (y 0 : Fin 16) (0 : Fin 1) (i 2 : Fin 128))) t (fun i => x (ix3 (y 0 : Fin 16) (i 2 : Fin 768) (i 3 : Fin 512)))
    (ix4 (0 : Fin 1) (0 : Fin 1) (y 1 : Fin 768) (y 2 : Fin 512))

/-- `result` depends on the staged blocks only through what they read. -/
theorem result_eq (arg0 : Memref sig .tc .vmem S16x1x128 .i32) (arg1 : Memref sig .tc .vmem S32x768 .f32)
    (fp : arg0.view.ty.Contents (Elt F)) (ft : arg1.view.ty.Contents (Elt F)) (x : xM.view.ty.Contents (Elt F)) :
    result arg0 arg1 fp ft x = outArr (arg0.view.read (Elt F) fp) (arg1.view.read (Elt F) ft) x := by
  have hr : ∀ b : Fin 16, posRow arg0 fp b = fun i => arg0.view.read (Elt F) fp (ix3 b (0 : Fin 1) (i 2 : Fin 128)) := by
    intro b
    funext i
    unfold posRow
    rw [View.readAt_apply]
    congr 1
    funext a
    apply Fin.ext
    match a with
    | ⟨0, _⟩ => have h : (i 0).val < 1 := (i 0).isLt; show b.val + 1 * (i 0).val = b.val; omega
    | ⟨1, _⟩ => have h : (i 1).val < 1 := (i 1).isLt; show 0 + 1 * (i 1).val = 0; omega
    | ⟨2, _⟩ => show 0 + 1 * (i 2).val = (i 2).val; omega
  have ht : tabAll arg1 ft = arg1.view.read (Elt F) ft := by
    funext i
    unfold tabAll
    rw [View.readAt_apply]
    congr 1
    funext a
    apply Fin.ext
    match a with
    | ⟨0, _⟩ => show 0 + 1 * (i 0).val = (i 0).val; omega
    | ⟨1, _⟩ => show 0 + 1 * (i 1).val = (i 1).val; omega
  funext y
  obtain ⟨b, d, l, rfl⟩ : ∃ (b : Fin 16) (d : Fin 768) (l : Fin 512), y = ix3 b d l := ⟨y 0, y 1, y 2, eq_ix3 y⟩
  show planeVal (posRow arg0 fp b) (tabAll arg1 ft) (xPlane x b) (ix4 (0 : Fin 1) (0 : Fin 1) d l)
    = planeVal (fun i => arg0.view.read (Elt F) fp (ix3 b (0 : Fin 1) (i 2 : Fin 128))) (arg1.view.read (Elt F) ft) (xPlane x b)
      (ix4 (0 : Fin 1) (0 : Fin 1) d l)
  rw [hr, ht]

end Cert.KernelIdeal.Hand
-- ==== Proof.Run.lean ====
/-
  The program's run: it terminates, its four argument arrays end unchanged, every semaphore counter ends at zero, and the
  result array ends at `outArr` of the staged positions, the staged table and `x`.

  The pipeline has one point. Its invariant holds what the body's own copies use: the two rings at some contents, the
  twelve cells at zero, `x` whole at what the region found, and the result array whole, before the point at what the region
  found and after it at the value.
-/
module

public import proofs.«01_k».proof.Proof.Gen.KernelIdeal.Frame
public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region: the host operations, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body's own copies use -/

/-- The twelve cells. -/
abbrev osem0 : Fin 12 → SemLoc sig := fun j =>
  (![SemLoc.dma 2, SemLoc.dma 3, SemLoc.dma 4, SemLoc.dma 5, SemLoc.dma 6, SemLoc.dma 7,
     SemLoc.dma 8, SemLoc.dma 9, SemLoc.dma 10, SemLoc.dma 11, SemLoc.dma 12, SemLoc.dma 13] : Fin 12 → SemLoc sig) j

theorem ownSemFacts0 : Pipeline.OwnSemFacts spec0 osem0 := by decide

/-- The twelve cells at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0) := by
  rw [Pipeline.ownSems0_eq_of_list c osem0 [0, 1, 2, 3, 4, 5, 6, 7, 8, 9, 10, 11] (by decide) (by decide)]; rfl

/-- The array the body's copies read: `x`. -/
def H0 : Finset (Ref sig .tc) := {main_arg0}
/-- The array the body's copies write: the result. -/
def R0 : Finset (Ref sig .tc) := {main_v0}

theorem H0_sub : H0 ⊆ Pipeline.restRefs sig spec0 := by decide
theorem R0_sub : R0 ⊆ Pipeline.restRefs sig spec0 \ H0 := by decide

theorem hbmPts0_eq (c : Dev nD) :
    (bigSep H0 (fun b => ((c : Thread nD τ).loc b) ↦{fullShare} V m c b) : sProp 𝕄) = pt c xM (V m c main_arg0) := by
  unfold H0; rw [BI.bigSep_singleton]

/-! ## The result and the invariant -/

/-- The one point of the grid. -/
abbrev t0 : Fin cfg0.N := ⟨0, by decide⟩

/-- What the region leaves in the result array. -/
def out (c : Dev nD) : Buf (Elt F) ((c : Thread nD τ).loc main_v0) :=
  outArr (iblk m c 0 t0) (iblk m c 1 t0) (V m c main_arg0)

/-- The buffers after the region: the result array at `out`, the others as the region found them. -/
def G (c : Dev nD) : (b : Ref sig .tc) → Buf (Elt F) ((c : Thread nD τ).loc b) :=
  Function.update (β := fun b => Buf (Elt F) ((c : Thread nD τ).loc b)) (V m c) main_v0 (out m c)

theorem G_out (c : Dev nD) : G m c main_v0 = out m c := Function.update_self ..

/-- The invariant before the point and after it. -/
def inv (c : Dev nD) (p : Fin (cfg0.N + 1)) : sProp 𝕄 :=
  Pipeline.ΦDRG osem0 spec0 H0 R0 (V m) (if p.val = 0 then V m else G m) c

theorem inv_eq (c : Dev nD) (W : (c : Dev nD) → (b : Ref sig .tc) → Buf (Elt F) ((c : Thread nD τ).loc b)) :
    (Pipeline.ΦDRG osem0 spec0 H0 R0 (V m) W c : sProp 𝕄)
      = iprop(iprop((∃ f, pt (F := F) c xb f) ∗ (∃ f, pt (F := F) c ob f)) ∗ (∃ r, prngReg c r)
          ∗ iprop(semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0)
          ∗ pt c xM (V m c main_arg0) ∗ pt c oM (W c main_v0)) := by
  rw [Pipeline.ΦDRG_eq, scopedRest0_eq, ownSems00_eq, hbmPts0_eq]
  unfold R0
  rw [Pipeline.routed_singleton]

/-- The proof data of the one pipeline: both windows are inputs, left as they were; nothing is owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ p := inv m c p
  q _ := fullShare
  owed _ := 0

theorem A_eq (c : Dev nD) (w : Fin cfg0.W) : (dats m 0 c).A w = V m c (Pipeline.arrRef spec0 w) := by
  dsimp only [dats]

/-- The body leaves each staged block in place. -/
theorem after_eq0 (c : Dev nD) (t : Fin cfg0.N) : (dats m 0 c).after 0 t = iblk m c 0 t := by dsimp only [dats]
theorem after_eq1 (c : Dev nD) (t : Fin cfg0.N) : (dats m 0 c).after 1 t = iblk m c 1 t := by dsimp only [dats]

/-- Before the point each window's staging buffer holds its block. -/
theorem before_eq0 (c : Dev nD) (t : Fin cfg0.N) (d) : (dats m 0 c).before 0 t d = iblk m c 0 t :=
  ((dats m 0 c).before_in_eq_fetched 0 rfl (fun _ => rfl) (fun _ _ _ => rfl)
    (fun t => by rw [after_eq0]; unfold Dat.blockOf iblk; rw [A_eq]) t d).trans (by unfold Dat.fetched Dat.blockOf iblk; rw [A_eq]; rfl)
theorem before_eq1 (c : Dev nD) (t : Fin cfg0.N) (d) : (dats m 0 c).before 1 t d = iblk m c 1 t :=
  ((dats m 0 c).before_in_eq_fetched 1 rfl (fun _ => rfl) (fun _ _ _ => rfl)
    (fun t => by rw [after_eq1]; unfold Dat.blockOf iblk; rw [A_eq]) t d).trans (by unfold Dat.fetched Dat.blockOf iblk; rw [A_eq]; rfl)

/-! ## The body at the point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body takes the invariant before the point to the invariant after it. -/
theorem sound_body (c : Dev nD) (t : Fin cfg0.N) :
    bodyPre m c t ⊢ wp frame (wpE (defs₀ (F := F)) Variants.none c none) Set.univ (bodyAt0 t) (fun _ => bodyPost m c t) := by
  obtain rfl : t = t0 := by apply Fin.ext; have h : t.val < 1 := t.isLt; show t.val = 0; omega
  unfold bodyPre bodyPost bodyAt0
  rw [after_eq0, after_eq1]
  simp only [before_eq0, before_eq1]
  rw [show (dats m 0 c).Φ (t0).castSucc = Pipeline.ΦDRG osem0 spec0 H0 R0 (V m) (V m) c from rfl,
    show (dats m 0 c).Φ (t0).succ = Pipeline.ΦDRG osem0 spec0 H0 R0 (V m) (G m) c from rfl, inv_eq, inv_eq, G_out]
  unfold Dat.owesAt Pipeline.owesWithin
  rw [show (dats m 0 c).owed (t0).castSucc = 0 from rfl, show (dats m 0 c).owed (t0).succ = 0 from rfl]
  unfold owns
  iintro ⟨⟨⟨⟨%fx, Hxb⟩, ⟨%fob, Hob⟩⟩, Hg, ⟨Hq0, Hq1, Hq2, Hq3, Hq4, Hq5, Hr0, Hr1, Hr2, Hr3, Hr4, Hr5⟩, Hx, Ho⟩, ⟨%W, -, HW⟩,
    ⟨%_, %fp, %hp, Hp⟩, ⟨%_, %ft, %ht, Ht⟩⟩
  iapply ((run c _ (hstage0_0 0) _ (hstage0_1 0) fp ft (V m c main_arg0) (V m c main_v0) fx fob).2 W _)
  isplitl [Hp]; · iexact Hp
  isplitl [Ht]; · iexact Ht
  isplitl [Hx]; · iexact Hx
  isplitl [Ho]; · iexact Ho
  isplitl [Hxb]; · iexact Hxb
  isplitl [Hob]; · iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [HW]; · iexact HW
  rw [run_result, result_eq, hp, ht]
  iintro ⟨Hp, Ht, Hx, Ho, Hxb, Hob, Hq0, Hq1, Hq2, Hq3, Hq4, Hq5, Hr0, Hr1, Hr2, Hr3, Hr4, Hr5, ⟨%W', HW'⟩⟩
  isplitl [Hx Ho Hxb Hob Hq0 Hq1 Hq2 Hq3 Hq4 Hq5 Hr0 Hr1 Hr2 Hr3 Hr4 Hr5 Hg]
  · isplitl [Hxb Hob]
    · isplitl [Hxb]; · iexact Hxb
      iexact Hob
    isplitl [Hg]; · iexact Hg
    isplitl [Hq0 Hq1 Hq2 Hq3 Hq4 Hq5 Hr0 Hr1 Hr2 Hr3 Hr4 Hr5]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hr0]; · iexact Hr0
      isplitl [Hr1]; · iexact Hr1
      isplitl [Hr2]; · iexact Hr2
      isplitl [Hr3]; · iexact Hr3
      isplitl [Hr4]; · iexact Hr4
      iexact Hr5
    isplitl [Hx]; · iexact Hx
    iexact Ho
  isplitl [HW']
  · iexists W'; isplitr; · ipureintro; exact fun _ _ => Or.inl trivial
    iexact HW'
  isplitl [Hp]
  · iexists fp; isplitr; · ipureintro; exact hp
    iexact Hp
  iexists ft; isplitr; · ipureintro; exact ht
  iexact Ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The region's run: every buffer it names ends where the invariant says, every counter at zero. -/
theorem run_region : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl) (howed := fun _ _ => rfl)
    (V := V m) (hmain := hmainD m Variants.none) (hA := A_eq m) (G := G m) (hin := fun _ => .rfl) (hout := fun _ => .rfl)

/-- The program's run: the result array at `out`, the arguments unchanged, every counter at zero. -/
theorem run_main : θ_run defs (onTc (τ := τ) (main (F := F))) ⟨m, fun _ => 0, ρ⟩ (fun r => (∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.2 c main_v0 (Finset.mem_singleton_self _)).trans (G_out m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c)⟩, h.2⟩)
    (run_region m ρ)

end Cert.KernelIdeal.Hand
-- ==== Proof.KernelRun.lean ====
/-
  The kernel as printed, from the kernel as idealized.

  The two programs' texts are the same, so their buffers, their @main and their bodies are the same by definition, at any
  reading of the floats. The body tables are the same label by label. The run proved for the one is then the run of the other.
-/
module

public import proofs.«01_k».proof.Kernel
public import proofs.«01_k».proof.Proof.Gen.Kernel
public import proofs.«01_k».proof.Proof.Run

@[expose] public section

set_option maxRecDepth 16384

noncomputable section

namespace Cert.KernelRun

open Idealize.ShloMosaic Idealize.SL.Sem
open Cert.Kernel

variable {F : FTy → Type} [FloatOps F]

/-- The kernels' body tables agree at every label. -/
theorem defs₀_eq : Cert.Kernel.defs₀ (F := F) = Cert.KernelIdeal.defs₀ (F := F) := by
  funext k
  cases k
  · funext ℓ a
    match ℓ, a with
    | ⟨0, _⟩, (_, _) => exact rfl
  · rfl
  · rfl

/-- So do the programs' tables. -/
theorem defs_eq : Cert.Kernel.defs (F := F) = Cert.KernelIdeal.defs (F := F) :=
  congrArg (Pipeline.defs (Cert.KernelIdeal.pcfgs (F := F))) defs₀_eq

/-- The kernel as printed terminates, its four argument arrays end unchanged, and every semaphore counter ends at zero. -/
theorem run_main (m : (ℓ : Loc nD τ sig) → Buf (Elt F) ℓ) (ρ : Dev nD → PrngReg) :
    θ_run (Cert.Kernel.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact (θ_run Cert.KernelIdeal.defs _ _).mono (fun _ h => ⟨fun c => (h.1 c).2, h.2⟩)
    (Cert.KernelIdeal.Hand.run_main (F := F) m ρ)

end Cert.KernelRun
-- ==== Proof.Words.lean ====
/-
  Words: the two ways the programs spell a floor division of integers, read on words that hold small naturals, and a
  comparison's bit read as one of the numbers 0 and 1.
-/
module

public import Idealize.ShloMosaic.Lib.Pointwise
public import Idealize.ShloMosaic.Lib.Routing.Words

@[expose] public section

noncomputable section

namespace PosEnc

open Idealize.ShloMosaic Idealize.ShloMosaic.Routing Idealize.ShloMosaic.WordCmp

/-- The bit of a comparison of two equal words for "not equal". -/
theorem cmpi_ne_self {w : Nat} (x : BitVec w) : IntOp.cmpi .ne x x = 0#1 := by
  simp [IntOp.cmpi]

/-- A floor division as it is printed: the quotient, one less where the signs' bit and the remainder's are both set. Where
    the remainder is not zero only if the signs agree, nothing is subtracted. -/
theorem select_floor (sx sy r q q' : BitVec 32) (h : sx = sy ∨ r = 0#32) :
    Scalar.select (IntOp.andi (IntOp.cmpi .ne sx sy) (IntOp.cmpi .ne r 0#32)) q' q = q := by
  have e : IntOp.andi (IntOp.cmpi .ne sx sy) (IntOp.cmpi .ne r 0#32) = 0#1 := by
    rcases h with rfl | rfl
    · rw [cmpi_ne_self]; show 0#1 &&& _ = 0#1; exact BitVec.zero_and
    · rw [cmpi_ne_self]; show _ &&& 0#1 = 0#1; exact BitVec.and_zero
  rw [e]
  rfl

/-- The host's floor division of the word of `a` by the word of `b` is the word of `a / b`, for `a < 2 ^ 31` and
    `0 < b < 2 ^ 31`. -/
theorem host_floor {a b : Nat} (ha : a < 2 ^ 31) (h0 : 0 < b) (hb : b < 2 ^ 31) :
    Scalar.select
      (IntOp.andi
        (IntOp.cmpi .ne
          (if BitVec.ofNat 32 a = 0 then (0 : BitVec 32) else if (BitVec.ofNat 32 a).msb = true then -1 else 1)
          (if BitVec.ofNat 32 b = 0 then 0 else if (BitVec.ofNat 32 b).msb = true then -1 else 1))
        (IntOp.cmpi .ne (IntOp.remsi .host (BitVec.ofNat 32 a) (BitVec.ofNat 32 b)) 0#32))
      (IntOp.subi (IntOp.divsi .host (BitVec.ofNat 32 a) (BitVec.ofNat 32 b)) 1#32)
      (IntOp.divsi .host (BitVec.ofNat 32 a) (BitVec.ofNat 32 b))
      = BitVec.ofNat 32 (a / b) := by
  rw [select_floor, divsi_word .host ha h0 hb]
  rw [remsi_word .host ha h0 hb, msb_ofNat32 ha, msb_ofNat32 hb, if_neg (ofNat32_ne_zero h0 (show b < 2 ^ 32 by omega))]
  rcases Nat.eq_zero_or_pos a with rfl | h
  · exact Or.inr (by rw [Nat.zero_mod])
  · exact Or.inl (by rw [if_neg (ofNat32_ne_zero h (show a < 2 ^ 32 by omega))])

/-- The sign of a word as the kernel spells it: the bit of "above zero" less the bit of "below zero". For the word of a
    natural below `2 ^ 31` it is 0 at zero and 1 elsewhere. -/
theorem vector_sign {a : Nat} (ha : a < 2 ^ 31) :
    IntOp.subi ((IntOp.cmpi .sgt (BitVec.ofNat 32 a) 0#32).setWidth 32) ((IntOp.cmpi .slt (BitVec.ofNat 32 a) 0#32).setWidth 32)
      = if a = 0 then 0#32 else 1#32 := by
  have t : (BitVec.ofNat 32 a).toInt = a := StableHlo.Predicate.toInt_ofNat_small _ ha
  have h1 : IntOp.cmpi .sgt (BitVec.ofNat 32 a) 0#32 = BitVec.ofBool (decide (0 < a)) := by
    simp only [IntOp.cmpi, BitVec.slt_eq_decide, t, BitVec.toInt_zero, Nat.cast_pos]
  have h2 : IntOp.cmpi .slt (BitVec.ofNat 32 a) 0#32 = 0#1 := by
    simp only [IntOp.cmpi, BitVec.slt_eq_decide, t, BitVec.toInt_zero]
    rw [decide_eq_false (by omega)]
    rfl
  rw [h1, h2]
  rcases Nat.eq_zero_or_pos a with rfl | h
  · rfl
  · rw [if_neg (by omega), decide_eq_true h]; rfl

/-- The kernel's floor division of the word of `a` by the word of `b` is the word of `a / b`, for `a < 2 ^ 31` and
    `0 < b < 2 ^ 31`. -/
theorem vector_floor {a b : Nat} (ha : a < 2 ^ 31) (h0 : 0 < b) (hb : b < 2 ^ 31) :
    Scalar.select
      (IntOp.andi
        (IntOp.cmpi .ne
          (IntOp.subi ((IntOp.cmpi .sgt (BitVec.ofNat 32 a) 0#32).setWidth 32)
            ((IntOp.cmpi .slt (BitVec.ofNat 32 a) 0#32).setWidth 32))
          (Scalar.subi (Scalar.extui (Scalar.cmpi .sgt (BitVec.ofNat 32 b) 0#32))
            (Scalar.extui (Scalar.cmpi .slt (BitVec.ofNat 32 b) 0#32))))
        (IntOp.cmpi .ne (IntOp.remsi .vector (BitVec.ofNat 32 a) (BitVec.ofNat 32 b)) 0#32))
      (IntOp.subi (IntOp.divsi .vector (BitVec.ofNat 32 a) (BitVec.ofNat 32 b)) 1#32)
      (IntOp.divsi .vector (BitVec.ofNat 32 a) (BitVec.ofNat 32 b))
      = BitVec.ofNat 32 (a / b) := by
  rw [select_floor, divsi_word .vector ha h0 hb]
  have hs : Scalar.subi (Scalar.extui (Scalar.cmpi .sgt (BitVec.ofNat 32 b) 0#32))
      (Scalar.extui (Scalar.cmpi .slt (BitVec.ofNat 32 b) 0#32)) = 1#32 :=
    (vector_sign hb).trans (if_neg (by omega))
  rw [remsi_word .vector ha h0 hb, vector_sign ha, hs]
  rcases Nat.eq_zero_or_pos a with rfl | h
  · exact Or.inr (by rw [Nat.zero_mod])
  · exact Or.inl (if_neg (by omega))

/-- The bit "the words of `a` and `b` are equal", as a number: 1 where `a = b` and 0 elsewhere, for naturals below `2 ^ 32`. -/
theorem oneHot_word {a b : Nat} (ha : a < 2 ^ 32) (hb : b < 2 ^ 32) :
    FloatOps.sitofp (F := Ideal) .f32 ((IntOp.cmpi .eq (BitVec.ofNat 32 a) (BitVec.ofNat 32 b)).setWidth 32)
      = if a = b then (1 : EReal) else 0 := by
  show ((((IntOp.cmpi .eq (BitVec.ofNat 32 a) (BitVec.ofNat 32 b)).setWidth 32).toInt : ℝ) : EReal) = _
  by_cases h : a = b
  · subst h
    rw [if_pos rfl]
    simp [IntOp.cmpi]
  · rw [if_neg h]
    have e : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have z : IntOp.cmpi .eq (BitVec.ofNat 32 a) (BitVec.ofNat 32 b) = 0#1 := by
      show BitVec.ofBool (BitVec.ofNat 32 a == BitVec.ofNat 32 b) = 0#1
      rw [beq_eq_false_iff_ne.2 e]
      rfl
    rw [z]
    simp

end PosEnc

end

end
-- ==== Proof.Plane.lean ====
/-
  One plane of the kernel's result on the extended reals: the two products of 0/1 matrices collapse to one entry of the
  table.

  The kernel multiplies the table by a 0/1 matrix, itself the product of two: `[k = ⌊pos i / 8⌋]` by `[i = ⌊l / 4⌋]`. On
  the extended reals a product with 0 is 0 and a product with 1 the other factor, whatever that factor is, so each sum has
  at most one term and no condition on the table is needed.
-/
module

public import proofs.«01_k».proof.Proof.Pieces
public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe

/-- The expansion matrix at `(i, l)`: 1 where `i = ⌊l / 4⌋` and 0 elsewhere. -/
theorem expand_apply (i : Fin 128) (l : Fin 512) :
    k0_pay1 (F := Ideal) (ix2 i l) = if i.val = l.val / 4 then (1 : EReal) else 0 := by
  pointwise [k0_pay1]
  rw [PosEnc.vector_floor (a := l.val) (b := 4) (by omega) (by omega) (by omega)]
  exact PosEnc.oneHot_word (by omega) (by omega)

/-- The selecting matrix at `(k, l)`: 1 where `k` is the eighth, rounded down, of the position at `⌊l / 4⌋`, and 0 elsewhere. -/
theorem select_apply (pr : Vec Ideal S1x1x128 .i32) (p : Fin 128 → Fin 128) (hp : ∀ i, pr (ix3 0 0 i) = BitVec.ofNat 32 (p i).val)
    (k : Fin 32) (l : Fin 512) :
    k0_pay2 (F := Ideal) k0_pay1 (iota .tc S32x128 32 [0] iota_S32x128_d0_w32) pr (ix2 k l)
      = if k.val = (p ⟨l.val / 4, by omega⟩).val / 8 then (1 : EReal) else 0 := by
  pointwise [k0_pay2]
  rw [Finset.sum_eq_single (⟨l.val / 4, by omega⟩ : Fin 128)]
  · rw [hp, PosEnc.vector_floor (a := (p ⟨l.val / 4, by omega⟩).val) (b := 8) (by omega) (by omega) (by omega), PosEnc.oneHot_word (by omega) (by omega),
      expand_apply, if_pos rfl, mul_one]
  · intro i _ hi
    rw [expand_apply, if_neg (fun e => hi (Fin.ext e)), mul_zero]
  · exact fun h => absurd (Finset.mem_univ _) h

/-- One element of a plane of the result: `x`'s own element plus the table's entry in the row that the position at `⌊l / 4⌋`
    selects. -/
theorem planeVal_apply (pr : Vec Ideal S1x1x128 .i32) (tab : Vec Ideal S32x768 .f32) (xt : Vec Ideal S1x1x768x512 .f32)
    (p : Fin 128 → Fin 128) (hp : ∀ i, pr (ix3 0 0 i) = BitVec.ofNat 32 (p i).val) (d : Fin 768) (l : Fin 512) :
    planeVal pr tab xt (ix4 0 0 d l)
      = (xt (ix4 0 0 d l) + tab (ix2 ⟨(p ⟨l.val / 4, by omega⟩).val / 8, by omega⟩ d) : EReal) := by
  unfold planeVal
  pointwise [k0_pay3]
  rw [Finset.sum_eq_single (⟨(p ⟨l.val / 4, by omega⟩).val / 8, by omega⟩ : Fin 32)]
  · rw [select_apply pr p hp, if_pos rfl, mul_one]
  · intro k _ hk
    rw [select_apply pr p hp, if_neg (fun e => hk (Fin.ext e)), mul_zero]
  · exact fun h => absurd (Finset.mem_univ _) h

end Cert.KernelIdeal.Hand

end

end
-- ==== Proof.Host.lean ====
/-
  What the host's operations leave for the kernel: the positions' column 0, one row of 128 for each batch entry, and the
  table with rows of zeros added below.
-/
module

public import proofs.«01_k».proof.Proof.Run
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The staged positions at `(b, 0, i)`: the argument's at `(b, i, 0)`. -/
theorem staged_pos (b : Fin 16) (i : Fin 128) :
    (V m c main_call0_v2 : IVec S16x1x128 32) (ix3 b 0 i)
      = (m ((c.tc : Thread nD τ).loc main_arg1) : IVec S16x128x256 32) (ix3 b i 0) := by
  unfold V
  after_reads_at

/-- The staged table at `(k, d)` for `k` below 17: the argument's. -/
theorem staged_tab (k : Fin 32) (hk : k.val < 17) (d : Fin 768) :
    (V m c main_call0_v3 : FVec Ideal S32x768 .f32) (ix2 k d)
      = (m ((c.tc : Thread nD τ).loc main_arg3) : FVec Ideal S17x768 .f32) (ix2 ⟨k.val, hk⟩ d) := by
  unfold V
  after_reads_at
  exact dif_pos hk

/-- Both windows sit at the origin of their arrays. -/
theorem index_zero : win0_0.index t0 = ![0, 0, 0] ∧ win0_1.index t0 = ![0, 0] := ⟨by decide, by decide⟩

/-- The positions' window is the whole array. -/
theorem window_pos (b : Fin 16) (i : Fin 128) :
    iblk m c 0 t0 (ix3 b 0 i) = (V m c main_call0_v2 : IVec S16x1x128 32) (ix3 b 0 i) := by
  blk_ext [iblk, index_zero]

/-- The table's window is the whole array. -/
theorem window_tab (k : Fin 32) (d : Fin 768) :
    iblk m c 1 t0 (ix2 k d) = (V m c main_call0_v3 : FVec Ideal S32x768 .f32) (ix2 k d) := by
  blk_ext [iblk, index_zero]

end Cert.KernelIdeal.Hand

end

end
-- ==== Proof.Reference.lean ====
/-
  The reference, read at an index: `x[b, d, h] + table[pos_h[b, h / 4, 0] / 8, d]` where every position is in range.

  The reference's text takes the eighths of all positions, their column 0, for each of the 512 lanes the entry
  `lane * 128 / 512`, and with that the table's rows. Both takes guard their index: a negative one is wrapped around, and
  the second puts a constant where the index is out of range. In range neither guard acts.
-/
module

public import proofs.«01_k».proof.Proof.Gen.ReferenceIdeal.Run
public import proofs.«01_k».proof.Proof.Words

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-! ## The reference's intermediate arrays -/

/-- The eighths, rounded down, of all positions. -/
def eighths (x : IVec S16x128x256 32) : IVec S16x128x256 32 :=
  select (andi (cmpi .ne (signi x) (broadcastInDim S16x128x256 ![] bcast_S_S16x128x256 (signi (id (constantI S_ 32 8#32)))))
      (cmpi .ne (Host.remsi x (broadcastInDim S16x128x256 ![] bcast_S_S16x128x256 (id (constantI S_ 32 8#32))))
        (broadcastInDim S16x128x256 ![] bcast_S_S16x128x256 (constantI S_ 32 0#32))))
    (subi (Host.divsi x (broadcastInDim S16x128x256 ![] bcast_S_S16x128x256 (id (constantI S_ 32 8#32))))
      (broadcastInDim S16x128x256 ![] bcast_S_S16x128x256 (constantI S_ 32 1#32)))
    (Host.divsi x (broadcastInDim S16x128x256 ![] bcast_S_S16x128x256 (id (constantI S_ 32 8#32))))

/-- Their column 0. -/
def column (x : IVec S16x128x256 32) : IVec S16x128 32 :=
  shapeCast _ (extractStridedSlice S16x128x1 ![0, 0, 0] (eighths x) slices_S16x128x256_S16x128x1_0_0_0) shapeCasts_S16x128x1_S16x128

/-- The lanes' numbers times 128. -/
def scaled : IVec S512 32 := muli (iotaInDim S512 32 0) (broadcastInDim S512 ![] bcast_S_S512 (constantI S_ 32 128#32))

/-- For each lane the entry of the column it reads, `lane * 128 / 512`. -/
def lanes : IVec S512 32 :=
  select (andi (cmpi .ne (signi scaled) (broadcastInDim S512 ![] bcast_S_S512 (signi (id (constantI S_ 32 512#32)))))
      (cmpi .ne (Host.remsi scaled (broadcastInDim S512 ![] bcast_S_S512 (id (constantI S_ 32 512#32))))
        (broadcastInDim S512 ![] bcast_S_S512 (constantI S_ 32 0#32))))
    (subi (Host.divsi scaled (broadcastInDim S512 ![] bcast_S_S512 (id (constantI S_ 32 512#32))))
      (broadcastInDim S512 ![] bcast_S_S512 (constantI S_ 32 1#32)))
    (Host.divsi scaled (broadcastInDim S512 ![] bcast_S_S512 (id (constantI S_ 32 512#32))))

/-- The same with negative entries wrapped around, as a column of indices. -/
def laneIdx : IVec S512x1 32 :=
  broadcastInDim S512x1 ![0] bcast_S512_S512x1_0
    (select (cmpi .slt lanes (broadcastInDim S512 ![] bcast_S_S512 (constantI S_ 32 0#32)))
      (addi lanes (broadcastInDim S512 ![] bcast_S_S512 (constantI S_ 32 128#32))) lanes)

/-- For each batch entry and lane the row of the table. -/
def rows (x : IVec S16x128x256 32) : IVec S16x512 32 :=
  Host.gather gather_S16x128_S512x1_S16x512_0_1_n_n_1_1_161 (column x) laneIdx

/-- The same with negative rows wrapped around, as an array of indices. -/
def rowIdx (x : IVec S16x128x256 32) : IVec S16x512x1 32 :=
  broadcastInDim S16x512x1 ![0, 1] bcast_S16x512_S16x512x1_0_1
    (select (cmpi .slt (rows x) (broadcastInDim S16x512 ![] bcast_S_S16x512 (constantI S_ 32 0#32)))
      (addi (rows x) (broadcastInDim S16x512 ![] bcast_S_S16x512 (constantI S_ 32 17#32))) (rows x))

/-- The bit "the row is one of the table's". -/
def inTable (x : IVec S16x128x256 32) : IVec S16x512 1 :=
  Host.reduce IntOp.andi
    (andi (cmpi .sge (rowIdx x) (broadcastInDim S16x512x1 ![] bcast_S_S16x512x1 (constantI S_ 32 0#32)))
      (cmpi .sle (rowIdx x) (broadcastInDim S16x512x1 ![0, 1, 2] bcast_S1x1x1_S16x512x1_0_1_2
        (broadcastInDim S1x1x1 ![2] bcast_S1_S1x1x1_2 (constantI S1 32 16#32)))))
    (constantI S_ 1 1#1) reducesTo_S16x512x1_S16x512_d2 h_S_

/-- The reference's result from its first, second and fourth argument. -/
def result (x0 : FVec Ideal S16x768x512 .f32) (x1 : IVec S16x128x256 32) (x3 : FVec Ideal S17x768 .f32) : FVec Ideal S16x768x512 .f32 :=
  addf x0 (transpose S16x768x512 [0, 2, 1]
    (select (broadcastInDim S16x512x768 ![0, 1] bcast_S16x512_S16x512x768_0_1 (inTable x1))
      (Host.gather gather_S17x768_S16x512x1_S16x512x768_2_0_n_n_0_2_1768 x3 (rowIdx x1))
      (broadcastInDim S16x512x768 ![] bcast_S_S16x512x768 (constant S_ .f32 0x7FC00000#32)))
    transposes_S16x512x768_S16x768x512_0_2_1)

/-- What the run of the reference leaves is `result` of the arguments. -/
theorem res_eq (m : (ℓ : Loc nD τ sig) → Buf (Elt Ideal) ℓ) (c : Dev nD) :
    res_main_v16 m c = result (m ((c.tc : Thread nD τ).loc main_arg0)) (m ((c.tc : Thread nD τ).loc main_arg1))
      (m ((c.tc : Thread nD τ).loc main_arg3)) := by
  unfold res_main_v16
  rfl

/-! ## Each at an index -/

/-- An eighth at an index, where the position there is the word of a natural below `2 ^ 31`. -/
theorem eighths_apply (x : IVec S16x128x256 32) (b : Fin 16) (i : Fin 128) (e : Fin 256) (n : Nat) (hn : n < 2 ^ 31)
    (hx : x (ix3 b i e) = BitVec.ofNat 32 n) : eighths x (ix3 b i e) = BitVec.ofNat 32 (n / 8) := by
  unfold eighths
  simp only [id]
  pointwise
  rw [hx]
  exact PosEnc.host_floor hn (by omega) (by omega)

/-- The column at an index. -/
theorem column_apply (x : IVec S16x128x256 32) (b : Fin 16) (i : Fin 128) : column x (ix2 b i) = eighths x (ix3 b i 0) := by
  unfold column
  pointwise

/-- A lane reads entry `h / 4`. -/
theorem lanes_apply (h : Fin 512) : lanes (ix1 h) = BitVec.ofNat 32 (h.val / 4) := by
  have hs : scaled (ix1 h) = BitVec.ofNat 32 (h.val * 128) := by
    unfold scaled
    pointwise
    exact (BitVec.ofNat_mul ..).symm
  unfold lanes
  simp only [id]
  pointwise
  rw [hs]
  refine (PosEnc.host_floor (b := 512) (by omega) (by omega) (by omega)).trans ?_
  congr 1
  omega

/-- The bit "below zero" of the word of a natural below `2 ^ 31` is not set. -/
theorem not_neg {n : Nat} (hn : n < 2 ^ 31) : IntOp.cmpi .slt (BitVec.ofNat 32 n) 0#32 = 0#1 := by
  have t : (BitVec.ofNat 32 n).toInt = n := StableHlo.Predicate.toInt_ofNat_small _ hn
  simp only [IntOp.cmpi, BitVec.slt_eq_decide, t, BitVec.toInt_zero]
  rw [decide_eq_false (by omega)]
  rfl

/-- The lane's index is not wrapped around. -/
theorem laneIdx_apply (h : Fin 512) : laneIdx (ix2 h 0) = BitVec.ofNat 32 (h.val / 4) := by
  unfold laneIdx
  pointwise
  rw [lanes_apply, not_neg (by omega)]
  rfl

/-- The two axes of a matrix. -/
theorem two_axes (a : Fin 2) : a = 0 ∨ a = 1 := by
  match a with
  | ⟨0, _⟩ => exact Or.inl rfl
  | ⟨1, _⟩ => exact Or.inr rfl

/-- The take from the column, at an index: the entry the lane's index names, that index clamped to the column. -/
theorem take_column (x : IVec S16x128 32) (idx : IVec S512x1 32) (b : Fin 16) (h : Fin 512) :
    Host.gather gather_S16x128_S512x1_S16x512_0_1_n_n_1_1_161 x idx (ix2 b h)
      = x (ix2 b ⟨min (idx (ix2 h 0)).toInt.toNat 127, by omega⟩) := by
  unfold Host.gather
  refine congrArg x (funext fun a => Fin.ext ?_)
  simp only [GatherDims.operandIdx]
  unfold GatherDims.start GatherDims.batchCoord GatherDims.offCoord
  obtain rfl | rfl : a = (0 : Fin 2) ∨ a = (1 : Fin 2) := two_axes a
  · rw [dif_neg (by decide), dif_neg (by decide), dif_pos (by decide)]
    simp only [Nat.zero_add]
    rfl
  · rw [dif_pos (by decide), dif_neg (by decide), dif_neg (by decide)]
    have e : ∀ w, gather_S16x128_S512x1_S16x512_0_1_n_n_1_1_161.siIdx (ix2 b h)
        ⟨List.idxOf (1 : Fin 2) gather_S16x128_S512x1_S16x512_0_1_n_n_1_1_161.startIndexMap, w⟩ = ix2 h 0 := fun w => by
      funext a
      apply Fin.ext
      match a with
      | ⟨0, _⟩ => rfl
      | ⟨1, _⟩ => rfl
    rw [e]
    rfl

/-- The take of the table's rows, at an index: the row the index names, clamped to the table, and its own entry. -/
theorem take_row (t : FVec Ideal S17x768 .f32) (idx : IVec S16x512x1 32) (b : Fin 16) (h : Fin 512) (d : Fin 768) :
    Host.gather gather_S17x768_S16x512x1_S16x512x768_2_0_n_n_0_2_1768 t idx (ix3 b h d)
      = t (ix2 ⟨min (idx (ix3 b h 0)).toInt.toNat 16, by omega⟩ d) := by
  unfold Host.gather
  refine congrArg t (funext fun a => Fin.ext ?_)
  simp only [GatherDims.operandIdx]
  unfold GatherDims.start GatherDims.batchCoord GatherDims.offCoord
  obtain rfl | rfl : a = (0 : Fin 2) ∨ a = (1 : Fin 2) := two_axes a
  · rw [dif_pos (by decide), dif_neg (by decide), dif_neg (by decide)]
    have e : ∀ w, gather_S17x768_S16x512x1_S16x512x768_2_0_n_n_0_2_1768.siIdx (ix3 b h d)
        ⟨List.idxOf (0 : Fin 2) gather_S17x768_S16x512x1_S16x512x768_2_0_n_n_0_2_1768.startIndexMap, w⟩ = ix3 b h 0 := fun w => by
      funext a
      apply Fin.ext
      match a with
      | ⟨0, _⟩ => rfl
      | ⟨1, _⟩ => rfl
      | ⟨2, _⟩ => rfl
    rw [e]
    rfl
  · rw [dif_neg (by decide), dif_neg (by decide), dif_pos (by decide)]
    simp only [Nat.zero_add]
    rfl

/-! ## In range -/

section InRange
variable (x : IVec S16x128x256 32) (p : Fin 16 → Fin 128 → Fin 128) (hp : ∀ b i, x (ix3 b i 0) = BitVec.ofNat 32 (p b i).val)

include hp

/-- The row of the table for a batch entry and a lane. -/
theorem rows_apply (b : Fin 16) (h : Fin 512) : rows x (ix2 b h) = BitVec.ofNat 32 ((p b ⟨h.val / 4, by omega⟩).val / 8) := by
  unfold rows
  rw [take_column, column_apply]
  have e : (⟨min (laneIdx (ix2 h 0)).toInt.toNat 127, by omega⟩ : Fin 128) = ⟨h.val / 4, by omega⟩ := by
    apply Fin.ext
    show min (laneIdx (ix2 h 0)).toInt.toNat 127 = h.val / 4
    rw [laneIdx_apply, StableHlo.Predicate.toInt_ofNat_small _ (by omega)]
    omega
  rw [e]
  exact eighths_apply x b _ 0 _ (by omega) (hp b _)

/-- The row's index is not wrapped around. -/
theorem rowIdx_apply (b : Fin 16) (h : Fin 512) :
    rowIdx x (ix3 b h 0) = BitVec.ofNat 32 ((p b ⟨h.val / 4, by omega⟩).val / 8) := by
  unfold rowIdx
  pointwise
  rw [rows_apply x p hp, not_neg (by omega)]
  rfl

/-- The row is one of the table's. -/
theorem inTable_apply (b : Fin 16) (h : Fin 512) : inTable x (ix2 b h) = 1#1 := by
  unfold inTable
  pointwise
  rw [show (Finset.univ : Finset (Fin 1)) = {0} from rfl, Finset.fold_singleton, rowIdx_apply x p hp]
  have hk : (p b ⟨h.val / 4, by omega⟩).val / 8 ≤ 16 := by omega
  generalize (p b ⟨h.val / 4, by omega⟩).val / 8 = k at hk
  have t : (BitVec.ofNat 32 k).toInt = k := StableHlo.Predicate.toInt_ofNat_small _ (by omega)
  have t16 : (16#32).toInt = 16 := rfl
  simp only [IntOp.cmpi, BitVec.sle_eq_decide, t, t16, BitVec.toInt_zero]
  rw [decide_eq_true (by omega), decide_eq_true (by omega)]
  rfl

/-- The reference's result at an index. -/
theorem result_apply (x0 : FVec Ideal S16x768x512 .f32) (x3 : FVec Ideal S17x768 .f32) (b : Fin 16) (d : Fin 768) (h : Fin 512) :
    result x0 x x3 (ix3 b d h) = (x0 (ix3 b d h) + x3 (ix2 ⟨(p b ⟨h.val / 4, by omega⟩).val / 8, by omega⟩ d) : EReal) := by
  unfold result
  pointwise
  rw [inTable_apply x p hp, take_row]
  have e : (⟨min (rowIdx x (ix3 b h 0)).toInt.toNat 16, by omega⟩ : Fin 17) = ⟨(p b ⟨h.val / 4, by omega⟩).val / 8, by omega⟩ := by
    apply Fin.ext
    show min (rowIdx x (ix3 b h 0)).toInt.toNat 16 = (p b ⟨h.val / 4, by omega⟩).val / 8
    rw [rowIdx_apply x p hp, StableHlo.Predicate.toInt_ofNat_small _ (by omega)]
    omega
  rw [e]
  rfl

end InRange

end Cert.ReferenceIdeal.Hand

end

end
-- ==== Proof.Value.lean ====
/-
  Kernel and reference agree on the extended reals where every position is in range: both leave
  `x[b, d, h] + table[pos_h[b, h / 4, 0] / 8, d]`.
-/
module

public import proofs.«01_k».proof.Defs
public import proofs.«01_k».proof.Proof.Gen.Pre_rows_in_range
public import proofs.«01_k».proof.Proof.Plane
public import proofs.«01_k».proof.Proof.Host
public import proofs.«01_k».proof.Proof.Reference

@[expose] public section

set_option maxRecDepth 16384

noncomputable section

namespace PosEnc

open Idealize.ShloMosaic Idealize.ShloMosaic.TcCoe
open Cert.KernelIdeal Cert.KernelIdeal.Gen Cert.KernelIdeal.Hand

/-- A word that is at least 0 and below 128, both read signed, is the word of a natural below 128. -/
theorem word_in_range (w : BitVec 32) (h : IntOp.andi (IntOp.cmpi .sge w 0#32) (IntOp.cmpi .slt w 128#32) = 1#1) :
    w.toNat < 128 := by
  have t128 : (128#32).toInt = 128 := rfl
  simp only [IntOp.cmpi, BitVec.sle_eq_decide, BitVec.slt_eq_decide, t128, BitVec.toInt_zero] at h
  by_cases h0 : 0 ≤ w.toInt
  · by_cases h1 : w.toInt < 128
    · have e := BitVec.toInt_eq_toNat_cond w
      have l := w.isLt
      split at e <;> omega
    · rw [decide_eq_true h0, decide_eq_false h1] at h
      exact absurd h (by decide)
  · rw [decide_eq_false h0] at h
    have z : ∀ b : BitVec 1, IntOp.andi (BitVec.ofBool false) b ≠ 1#1 := by decide
    exact absurd h (z _)

/-- The precondition at one position: the position is a natural below 128. -/
theorem pos_in_range (m : (ℓ : Loc nD τ sig) → Buf (Elt Ideal) ℓ) (h : Cert.Pre_KernelIdeal_rows_in_range m) (c : Dev nD)
    (b : Fin 16) (i : Fin 128) :
    ((m ((c.tc : Thread nD τ).loc main_arg1) : IVec S16x128x256 32) (ix3 b i 0)).toNat < 128 := by
  have e := congrFun (h c) (ix3 b i 0)
  simp only [Cert.Pre_rows_in_range.fn] at e
  pointwise at e
  exact word_in_range _ e

/-- The positions the kernel and the reference use: column 0, as numbers below 128. -/
def pos (m : (ℓ : Loc nD τ sig) → Buf (Elt Ideal) ℓ) (h : Cert.Pre_KernelIdeal_rows_in_range m) (c : Dev nD)
    (b : Fin 16) (i : Fin 128) : Fin 128 :=
  ⟨((m ((c.tc : Thread nD τ).loc main_arg1) : IVec S16x128x256 32) (ix3 b i 0)).toNat, pos_in_range m h c b i⟩

/-- The argument holds the words of those numbers. -/
theorem pos_word (m : (ℓ : Loc nD τ sig) → Buf (Elt Ideal) ℓ) (h : Cert.Pre_KernelIdeal_rows_in_range m) (c : Dev nD)
    (b : Fin 16) (i : Fin 128) :
    (m ((c.tc : Thread nD τ).loc main_arg1) : IVec S16x128x256 32) (ix3 b i 0) = BitVec.ofNat 32 (pos m h c b i).val :=
  BitVec.eq_of_toNat_eq (by rw [BitVec.toNat_ofNat]; exact (Nat.mod_eq_of_lt (BitVec.isLt _)).symm)

/-- The kernel's result is the reference's value of the arguments. -/
theorem out_eq (m : (ℓ : Loc nD τ sig) → Buf (Elt Ideal) ℓ) (h : Cert.Pre_KernelIdeal_rows_in_range m) (c : Dev nD) :
    out m c = Cert.ReferenceIdeal.Hand.result (m ((c.tc : Thread nD τ).loc main_arg0)) (m ((c.tc : Thread nD τ).loc main_arg1))
      (m ((c.tc : Thread nD τ).loc main_arg3)) := by
  funext y
  obtain ⟨b, d, l, rfl⟩ : ∃ (b : Fin 16) (d : Fin 768) (l : Fin 512), y = ix3 b d l := ⟨y 0, y 1, y 2, eq_ix3 y⟩
  rw [Cert.ReferenceIdeal.Hand.result_apply _ (pos m h c) (pos_word m h c)]
  show planeVal (fun i => iblk m c 0 t0 (ix3 b 0 (i 2))) (iblk m c 1 t0) (fun i => V m c main_arg0 (ix3 b (i 2) (i 3)))
    (ix4 0 0 d l) = _
  rw [planeVal_apply _ _ _ (pos m h c b) (fun i => (window_pos m c b i).trans ((staged_pos m c b i).trans (pos_word m h c b i)))]
  rw [window_tab, staged_tab m c _ (show (pos m h c b ⟨l.val / 4, by omega⟩).val / 8 < 17 by omega)]
  rw [V_main_arg0]
  rfl

end PosEnc

end

end
-- ==== Proof.lean ====
/-
  The claim: both programs end and leave their arguments, and where every position is in range they leave equal results.
-/
module

public import proofs.«01_k».proof.Defs
public import proofs.«01_k».proof.Proof.Gen.Pre_rows_in_range
public import proofs.«01_k».proof.Proof.KernelRun
public import proofs.«01_k».proof.Proof.Value
public import Idealize.ShloMosaic.Lib.Quiescent

@[expose] public section

noncomputable section

namespace Cert.Proof

open Idealize.ShloMosaic Idealize.SL.Sem

/-- The reference, as the run leaves it: its arguments unchanged and, there being no semaphore, every counter at zero. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
        ∧ r.2.sem = fun _ => 0) :=
  (θ_run ReferenceIdeal.defs _ _).mono (fun r h => ⟨fun c => (h c).2, sem_eq_zero_of_no_sems (by decide) r.2⟩)
    (ReferenceIdeal.Value.run (F := Ideal) m g)

/-- The kernel at the extended reals: its arguments unchanged and every counter at zero. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal)))
      ⟨m, fun _ => 0, g⟩ (fun r => (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3))
        ∧ r.2.sem = fun _ => 0) :=
  (θ_run KernelIdeal.defs _ _).mono (fun _ h => ⟨fun c => (h.1 c).2, h.2⟩) (KernelIdeal.Hand.run_main (F := Ideal) m g)

/-- Equal results from equal arguments, every position in range: the reference's value of the arguments. -/
theorem algebraic : algebraic_KernelIdeal_ReferenceIdeal_pre_rows_in_range := by
  intro m g m' g' h e
  refine ⟨fun c => KernelIdeal.Hand.out m c, ?_, ?_⟩
  · exact (θ_run KernelIdeal.defs _ _).mono (fun _ h => h.1) (KernelIdeal.Hand.run_main (F := Ideal) m g)
  · refine (θ_run ReferenceIdeal.defs _ _).mono (fun r hr c => ⟨(hr c).1.trans ?_, (hr c).2⟩)
      (ReferenceIdeal.Value.run (F := Ideal) m' g')
    rw [ReferenceIdeal.Hand.res_eq, (e c).1, (e c).2.1, (e c).2.2.2]
    exact (PosEnc.out_eq m h c).symm

/-- Everything claimed. -/
theorem claim : Claim :=
  ⟨Kernel.Gen.facts, KernelIdeal.Gen.facts, ReferenceIdeal.Gen.facts, Pre_rows_in_range.Gen.facts,
    fun m g _ => KernelRun.run_main (F := Bits) m g,
    fun m g _ => kernel_run m g, fun m g _ => kernel_run m g,
    fun m g _ => reference_run m g, fun m g _ => reference_run m g,
    trivial, algebraic⟩

end Cert.Proof

end

end
